-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x64x64 : Shape := ⟨4, ![8, 256, 64, 64]⟩
abbrev S8x3x4 : Shape := ⟨3, ![8, 3, 4]⟩
abbrev S8x2 : Shape := ⟨2, ![8, 2]⟩
abbrev S50x256 : Shape := ⟨2, ![50, 256]⟩
abbrev S8x64x64x512 : Shape := ⟨4, ![8, 64, 64, 512]⟩
abbrev S64x64x512 : Shape := ⟨3, ![64, 64, 512]⟩
abbrev S8 : Shape := ⟨1, ![8]⟩
abbrev S64x1 : Shape := ⟨2, ![64, 1]⟩
abbrev S64x50 : Shape := ⟨2, ![64, 50]⟩
abbrev S64x256 : Shape := ⟨2, ![64, 256]⟩
abbrev S1x64x256 : Shape := ⟨3, ![1, 64, 256]⟩
abbrev S64x64x256 : Shape := ⟨3, ![64, 64, 256]⟩
abbrev S64x1x256 : Shape := ⟨3, ![64, 1, 256]⟩
abbrev S1 : Shape := ⟨1, ![1]⟩
abbrev S_ : Shape := ⟨0, ![]⟩
abbrev S1x64x64x512 : Shape := ⟨4, ![1, 64, 64, 512]⟩
abbrev S8x512x64x64 : Shape := ⟨4, ![8, 512, 64, 64]⟩

abbrev nBuf : Space → Nat
  | .hbm => 7
  | .vmem => 3
  | .smem => 0
  | _ => 0

abbrev bufTy : (tb : Table) → Fin (tcTables nBuf tb) → BufTy
  | .hbm, ⟨0, _⟩ => ⟨S8x256x64x64, .f32⟩
  | .hbm, ⟨1, _⟩ => ⟨S8x3x4, .f32⟩
  | .hbm, ⟨2, _⟩ => ⟨S8x2, .f32⟩
  | .hbm, ⟨3, _⟩ => ⟨S50x256, .f32⟩
  | .hbm, ⟨4, _⟩ => ⟨S50x256, .f32⟩
  | .hbm, ⟨5, _⟩ => ⟨S8x64x64x512, .f32⟩
  | .hbm, ⟨6, _⟩ => ⟨S8x512x64x64, .f32⟩
  | .local _ .vmem, ⟨0, _⟩ => ⟨S50x256, .f32⟩
  | .local _ .vmem, ⟨1, _⟩ => ⟨S50x256, .f32⟩
  | .local _ .vmem, ⟨2, _⟩ => ⟨S64x64x512, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S50x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x256x64x64 : Shape := ⟨4, ![8, 256, 64, 64]⟩
abbrev S8x3x4 : Shape := ⟨3, ![8, 3, 4]⟩
abbrev S8x2 : Shape := ⟨2, ![8, 2]⟩
abbrev S50x256 : Shape := ⟨2, ![50, 256]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x256 : Shape := ⟨2, ![64, 256]⟩
abbrev S1x64x256 : Shape := ⟨3, ![1, 64, 256]⟩
abbrev S1x1x1x64x1x256 : Shape := ⟨6, ![1, 1, 1, 64, 1, 256]⟩
abbrev S64x1x1x64x1x256 : Shape := ⟨6, ![64, 1, 1, 64, 1, 256]⟩
abbrev S64x64x256 : Shape := ⟨3, ![64, 64, 256]⟩
abbrev S64x1x256 : Shape := ⟨3, ![64, 1, 256]⟩
abbrev S1x64x1x1x1x256 : Shape := ⟨6, ![1, 64, 1, 1, 1, 256]⟩
abbrev S1x64x64x1x1x256 : Shape := ⟨6, ![1, 64, 64, 1, 1, 256]⟩
abbrev S64x64x512 : Shape := ⟨3, ![64, 64, 512]⟩
abbrev S512x64x64 : Shape := ⟨3, ![512, 64, 64]⟩
abbrev S1x512x64x64 : Shape := ⟨4, ![1, 512, 64, 64]⟩
abbrev S1x1x1x512x1x64x1x64 : Shape := ⟨8, ![1, 1, 1, 512, 1, 64, 1, 64]⟩
abbrev S8x1x1x512x1x64x1x64 : Shape := ⟨8, ![8, 1, 1, 512, 1, 64, 1, 64]⟩
abbrev S8x512x64x64 : Shape := ⟨4, ![8, 512, 64, 64]⟩

abbrev nBuf : Space → Nat
  | .hbm => 161
  | .vmem => 0
  | .smem => 0
  | _ => 0

abbrev hbmTy0_0 (i : Nat) : BufTy := match i % 128 with
  | 0 => ⟨S8x256x64x64, .f32⟩
  | 1 => ⟨S8x3x4, .f32⟩
  | 2 => ⟨S8x2, .f32⟩
  | 3 => ⟨S50x256, .f32⟩
  | 4 => ⟨S50x256, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S64, .f32⟩
  | 20 => ⟨S64, .f32⟩
  | 21 => ⟨S64x1, .f32⟩
  | 22 => ⟨S64, .i32⟩
  | 23 => ⟨S_, .i32⟩
  | 24 => ⟨S64, .i32⟩
  | 25 => ⟨S64, .i32⟩
  | 26 => ⟨S_, .i32⟩
  | 27 => ⟨S64, .i32⟩
  | 28 => ⟨S64, .i32⟩
  | 29 => ⟨S_, .i32⟩
  | 30 => ⟨S64, .i32⟩
  | 31 => ⟨S64, .i1⟩
  | 32 => ⟨S_, .i32⟩
  | 33 => ⟨S64, .i32⟩
  | 34 => ⟨S64, .i32⟩
  | 35 => ⟨S64, .i32⟩
  | 36 => ⟨S64x1, .i32⟩
  | 37 => ⟨S1, .i32⟩
  | 38 => ⟨S_, .i32⟩
  | 39 => ⟨S64x1, .i32⟩
  | 40 => ⟨S64x1, .i1⟩
  | 41 => ⟨S1x1, .i32⟩
  | 42 => ⟨S64x1, .i32⟩
  | 43 => ⟨S64x1, .i1⟩
  | 44 => ⟨S64x1, .i1⟩
  | 45 => ⟨S_, .i1⟩
  | 46 => ⟨S64, .i1⟩
  | 47 => ⟨S64x256, .f32⟩
  | 48 => ⟨S64x256, .i1⟩
  | 49 => ⟨S_, .f32⟩
  | 50 => ⟨S64x256, .f32⟩
  | 51 => ⟨S64x256, .f32⟩
  | 52 => ⟨S_, .f32⟩
  | 53 => ⟨S64x1, .f32⟩
  | 54 => ⟨S64x1, .f32⟩
  | 55 => ⟨S64x256, .f32⟩
  | 56 => ⟨S64x256, .f32⟩
  | 57 => ⟨S_, .i32⟩
  | 58 => ⟨S64, .i32⟩
  | 59 => ⟨S64, .i1⟩
  | 60 => ⟨S_, .i32⟩
  | 61 => ⟨S64, .i32⟩
  | 62 => ⟨S64, .i32⟩
  | 63 => ⟨S64, .i32⟩
  | 64 => ⟨S64x1, .i32⟩
  | 65 => ⟨S1, .i32⟩
  | 66 => ⟨S_, .i32⟩
  | 67 => ⟨S64x1, .i32⟩
  | 68 => ⟨S64x1, .i1⟩
  | 69 => ⟨S1x1, .i32⟩
  | 70 => ⟨S64x1, .i32⟩
  | 71 => ⟨S64x1, .i1⟩
  | 72 => ⟨S64x1, .i1⟩
  | 73 => ⟨S_, .i1⟩
  | 74 => ⟨S64, .i1⟩
  | 75 => ⟨S64x256, .f32⟩
  | 76 => ⟨S64x256, .i1⟩
  | 77 => ⟨S_, .f32⟩
  | 78 => ⟨S64x256, .f32⟩
  | 79 => ⟨S64x256, .f32⟩
  | 80 => ⟨S64x256, .f32⟩
  | 81 => ⟨S64x256, .f32⟩
  | 82 => ⟨S64x256, .f32⟩
  | 83 => ⟨S64, .f32⟩
  | 84 => ⟨S64, .f32⟩
  | 85 => ⟨S64x1, .f32⟩
  | 86 => ⟨S64, .i32⟩
  | 87 => ⟨S_, .i32⟩
  | 88 => ⟨S64, .i32⟩
  | 89 => ⟨S64, .i32⟩
  | 90 => ⟨S_, .i32⟩
  | 91 => ⟨S64, .i32⟩
  | 92 => ⟨S64, .i32⟩
  | 93 => ⟨S_, .i32⟩
  | 94 => ⟨S64, .i32⟩
  | 95 => ⟨S64, .i1⟩
  | 96 => ⟨S_, .i32⟩
  | 97 => ⟨S64, .i32⟩
  | 98 => ⟨S64, .i32⟩
  | 99 => ⟨S64, .i32⟩
  | 100 => ⟨S64x1, .i32⟩
  | 101 => ⟨S1, .i32⟩
  | 102 => ⟨S_, .i32⟩
  | 103 => ⟨S64x1, .i32⟩
  | 104 => ⟨S64x1, .i1⟩
  | 105 => ⟨S1x1, .i32⟩
  | 106 => ⟨S64x1, .i32⟩
  | 107 => ⟨S64x1, .i1⟩
  | 108 => ⟨S64x1, .i1⟩
  | 109 => ⟨S_, .i1⟩
  | 110 => ⟨S64, .i1⟩
  | 111 => ⟨S64x256, .f32⟩
  | 112 => ⟨S64x256, .i1⟩
  | 113 => ⟨S_, .f32⟩
  | 114 => ⟨S64x256, .f32⟩
  | 115 => ⟨S64x256, .f32⟩
  | 116 => ⟨S_, .f32⟩
  | 117 => ⟨S64x1, .f32⟩
  | 118 => ⟨S64x1, .f32⟩
  | 119 => ⟨S64x256, .f32⟩
  | 120 => ⟨S64x256, .f32⟩
  | 121 => ⟨S_, .i32⟩
  | 122 => ⟨S64, .i32⟩
  | 123 => ⟨S64, .i1⟩
  | 124 => ⟨S_, .i32⟩
  | 125 => ⟨S64, .i32⟩
  | 126 => ⟨S64, .i32⟩
  | 127 => ⟨S64, .i32⟩
  | _ => ⟨S8x256x64x64, .f32⟩

abbrev hbmTy0_1 (i : Nat) : BufTy := match i % 128 with
  | 0 => ⟨S64x1, .i32⟩
  | 1 => ⟨S1, .i32⟩
  | 2 => ⟨S_, .i32⟩
  | 3 => ⟨S64x1, .i32⟩
  | 4 => ⟨S64x1, .i1⟩
  | 5 => ⟨S1x1, .i32⟩
  | 6 => ⟨S64x1, .i32⟩
  | 7 => ⟨S64x1, .i1⟩
  | 8 => ⟨S64x1, .i1⟩
  | 9 => ⟨S_, .i1⟩
  | 10 => ⟨S64, .i1⟩
  | 11 => ⟨S64x256, .f32⟩
  | 12 => ⟨S64x256, .i1⟩
  | 13 => ⟨S_, .f32⟩
  | 14 => ⟨S64x256, .f32⟩
  | 15 => ⟨S64x256, .f32⟩
  | 16 => ⟨S64x256, .f32⟩
  | 17 => ⟨S64x256, .f32⟩
  | 18 => ⟨S64x256, .f32⟩
  | 19 => ⟨S1x64x256, .f32⟩
  | 20 => ⟨S1x1x1x64x1x256, .f32⟩
  | 21 => ⟨S64x1x1x64x1x256, .f32⟩
  | 22 => ⟨S64x64x256, .f32⟩
  | 23 => ⟨S64x1x256, .f32⟩
  | 24 => ⟨S1x64x1x1x1x256, .f32⟩
  | 25 => ⟨S1x64x64x1x1x256, .f32⟩
  | 26 => ⟨S64x64x256, .f32⟩
  | 27 => ⟨S64x64x512, .f32⟩
  | 28 => ⟨S512x64x64, .f32⟩
  | 29 => ⟨S1x512x64x64, .f32⟩
  | 30 => ⟨S1x1x1x512x1x64x1x64, .f32⟩
  | 31 => ⟨S8x1x1x512x1x64x1x64, .f32⟩
  | 32 => ⟨S8x512x64x64, .f32⟩
  | _ => ⟨S8x256x64x64, .f32⟩

abbrev hbmTy (i : Nat) : BufTy := match i / 128 with
  | 0 => hbmTy0_0 i
  | 1 => hbmTy0_1 i
  | _ => ⟨S8x256x64x64, .f32⟩

abbrev bufTy : (tb : Table) → Fin (tcTables nBuf tb) → BufTy
  | .hbm, ⟨i, _⟩ => hbmTy i
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v18 : Ref sig .tc := ⟨.hbm, 51, rfl⟩
abbrev main_cst_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_c_5 : Ref sig .tc := ⟨.hbm, 87, rfl⟩
abbrev main_v31 : Ref sig .tc := ⟨.hbm, 88, rfl⟩
abbrev main_v32 : Ref sig .tc := ⟨.hbm, 89, rfl⟩
abbrev main_c_6 : Ref sig .tc := ⟨.hbm, 90, rfl⟩
abbrev main_v33 : Ref sig .tc := ⟨.hbm, 91, rfl⟩
abbrev main_v34 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v35 : Ref sig .tc := ⟨.hbm, 115, rfl⟩
abbrev main_cst_7 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_call3_c : Ref sig .tc := ⟨.hbm, 121, rfl⟩
abbrev main_call3_v0 : Ref sig .tc := ⟨.hbm, 122, rfl⟩
abbrev main_call3_v1 : Ref sig .tc := ⟨.hbm, 123, rfl⟩
abbrev main_call3_c_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_c_1 : Ref sig .tc := ⟨.hbm, 129, rfl⟩
abbrev main_call3_c_2 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_3 : Ref sig .tc := ⟨.hbm, 137, rfl⟩
abbrev main_call3_v12 : Ref sig .tc := ⟨.hbm, 138, rfl⟩
abbrev main_call3_v13 : Ref sig .tc := ⟨.hbm, 139, rfl⟩
abbrev main_call3_v14 : Ref sig .tc := ⟨.hbm, 140, rfl⟩
abbrev main_call3_cst : Ref sig .tc := ⟨.hbm, 141, rfl⟩
abbrev main_call3_v15 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_v57 : Ref sig .tc := ⟨.hbm, 160, rfl⟩

abbrev nD : Nat := 1
abbrev τ : Topo := Topo.v7x

variable {F : FTy → Type} [FloatOps F]
-- ==== Proof.KI.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Transfers
public import Idealize.ShloMosaic.Lib.Ring
public import Idealize.ShloMosaic.Lib.VecWindow
public import Idealize.ShloMosaic.Lib.ValueIdxCore
public import Idealize.ShloMosaic.Lib.ValueLayout
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (Pipeline.UD sig nD τ) ℕ

abbrev hbV0 : Memref sig .tc .hbm S8x64x64x512 .f32 := Memref.whole main_v0
abbrev scM : Memref sig .tc .vmem S64x64x512 .f32 := Memref.whole cc0_scratch0

/-- The scratch array split into ten read shares and a remainder. -/
theorem toks_eq (c : Dev nD) (f : Buf (Elt F) (scM.view.loc (c : Thread nD τ))) :
    ((scM.view.loc (c : Thread nD τ) ↦[scM.view.set]{fullShare} f) : sProp 𝕄)
      ⊣⊢ iprop((scM.view.loc (c : Thread nD τ) ↦[scM.view.set]{Transfers.shareDrop fullShare 10} f)
        ∗ (scM.view.loc (c : Thread nD τ) ↦[scM.view.set]{Transfers.shareTokN fullShare 0} f)
        ∗ (scM.view.loc (c : Thread nD τ) ↦[scM.view.set]{Transfers.shareTokN fullShare 1} f)
        ∗ (scM.view.loc (c : Thread nD τ) ↦[scM.view.set]{Transfers.shareTokN fullShare 2} f)
        ∗ (scM.view.loc (c : Thread nD τ) ↦[scM.view.set]{Transfers.shareTokN fullShare 3} f)
        ∗ (scM.view.loc (c : Thread nD τ) ↦[scM.view.set]{Transfers.shareTokN fullShare 4} f)
        ∗ (scM.view.loc (c : Thread nD τ) ↦[scM.view.set]{Transfers.shareTokN fullShare 5} f)
        ∗ (scM.view.loc (c : Thread nD τ) ↦[scM.view.set]{Transfers.shareTokN fullShare 6} f)
        ∗ (scM.view.loc (c : Thread nD τ) ↦[scM.view.set]{Transfers.shareTokN fullShare 7} f)
        ∗ (scM.view.loc (c : Thread nD τ) ↦[scM.view.set]{Transfers.shareTokN fullShare 8} f)
        ∗ (scM.view.loc (c : Thread nD τ) ↦[scM.view.set]{Transfers.shareTokN fullShare 9} f)) := by
  have h := Transfers.pointsTo_toks_range (Ix := Unit) (Name := ℕ) (U := Pipeline.UD sig nD τ) (Lvl := ℕ)
    (ℓ := scM.view.loc (c : Thread nD τ)) (S := scM.view.set) (f := f) fullShare 10
  rw [BI.bigSep_eq_bigSepL_of_eq [0, 1, 2, 3, 4, 5, 6, 7, 8, 9] (by decide) (by decide)] at h
  exact h

/-- The scratch stored whole holds the stored value. -/
theorem stored (c : Dev nD) (f : Buf (Elt F) (scM.view.loc (c : Thread nD τ))) (p : FVec F S64x64x512 .f32) :
    ((scM.view.loc (c : Thread nD τ) ↦[scM.view.set]{fullShare} scM.view.writes (Elt F) f
        [⟨Rect.unit ![0, 0, 0] S64x64x512.size inb_S64x64x512_S64x64x512_0_0_0, p⟩]) : sProp 𝕄)
      ⊢ iprop(∃ g, ⌜scM.view.read (Elt F) g = p⌝ ∗ (scM.view.loc (c : Thread nD τ) ↦[scM.view.set]{fullShare} g)) := by
  iintro H
  iexists _
  isplitr; swap; · iexact H
  ipureintro
  exact View.read_writes_full scM.view f inb_S64x64x512_S64x64x512_0_0_0 p []

/-- The slab of the result at batch coordinate `i`, seen as one f32[64, 64, 512] array. -/
abbrev slab (i : ℕ) (h : ∀ a, (![i, 0, 0, 0] : Fin 4 → ℕ) a + S1x64x64x512.size a ≤ S8x64x64x512.size a) :
    Memref sig .tc .hbm S64x64x512 .f32 :=
  (hbV0.slice (Rect.unit ![i, 0, 0, 0] S1x64x64x512.size h) (fun _ => rfl)).squeeze S64x64x512 squeezes_S1x64x64x512_S64x64x512

/-- Where an index of a slab lies in the result. -/
theorem slab_emb (i : ℕ) (h) (hi : i < 8) (x : Fin 64) (y : Fin 64) (z : Fin 512) :
    (slab i h).view.emb (ix3 x y z) = (ix4 (⟨i, hi⟩ : Fin 8) x y z : S8x64x64x512.Idx) := by
  have hn : S64x64x512.numel = S1x64x64x512.numel := by decide
  have e : Shape.reshapeEquiv hn (ix3 x y z) = ix4 (⟨0, Nat.one_pos⟩ : Fin 1) x y z :=
    reshapeEquiv_ix3_1abc (a := 64) (b := 64) (c := 512) hn x y z
  have e' : (slab i h).view.emb (ix3 x y z) = (Rect.unit (s := S8x64x64x512) ![i, 0, 0, 0] S1x64x64x512.size h).emb
      (Shape.reshapeEquiv hn (ix3 x y z)) := rfl
  rw [e', e]
  funext a
  apply Fin.ext
  rw [Rect.emb_apply]
  fin_cases a
  · show i + 1 * 0 = i; omega
  · show 0 + 1 * x.val = x.val; omega
  · show 0 + 1 * y.val = y.val; omega
  · show 0 + 1 * z.val = z.val; omega

/-- A write of a slab, read at an index of the result: the written value inside that slab, the old contents outside it. -/
theorem slab_write (i : ℕ) (h) (f : S8x64x64x512.Idx → Elt F .f32) (w : S64x64x512.Idx → Elt F .f32) (b : Fin 8) (x : Fin 64) (y : Fin 64)
    (z : Fin 512) : View.write (Elt F) (slab i h).view f w Finset.univ (ix4 b x y z)
      = if b.val = i then w (ix3 x y z) else f (ix4 b x y z) := by
  have hi : i < 8 := by have := h 0; change i + 1 ≤ 8 at this; omega
  split
  · next hb =>
    obtain rfl : b = ⟨i, hi⟩ := Fin.ext hb
    have := View.write_emb_of_mem (v := (slab i h).view) (Val := Elt F) f w (Finset.mem_univ (ix3 x y z))
    rw [slab_emb i h hi] at this
    exact this
  · next hb =>
    refine View.write_of_not_mem _ _ _ fun hm => ?_
    obtain ⟨j, -, hj⟩ := Finset.mem_map.mp hm
    have hj' := slab_emb i h hi (j 0) (j 1) (j 2)
    have e : (ix3 (j 0) (j 1) (j 2) : S64x64x512.Idx) = j := (eq_ix3 j).symm
    rw [e] at hj'
    exact hb (congrArg Fin.val (congrFun (hj.symm.trans hj') 0))

/-- Eight copies of one array, stacked along a new leading axis. -/
def stack {α : Type} (p : S64x64x512.Idx → α) : S8x64x64x512.Idx → α := fun j => p (ix3 (j 1) (j 2) (j 3))

/-- The eight slabs written one after the other hold eight copies of the array. -/
theorem slabs_written (f : S8x64x64x512.Idx → Elt F .f32) (w : S64x64x512.Idx → Elt F .f32) (h0 h1 h2 h3 h4 h5 h6 h7) :
    View.write (Elt F) (slab 7 h7).view (View.write (Elt F) (slab 6 h6).view (View.write (Elt F) (slab 5 h5).view
      (View.write (Elt F) (slab 4 h4).view (View.write (Elt F) (slab 3 h3).view (View.write (Elt F) (slab 2 h2).view
        (View.write (Elt F) (slab 1 h1).view (View.write (Elt F) (slab 0 h0).view f w Finset.univ) w Finset.univ) w Finset.univ)
          w Finset.univ) w Finset.univ) w Finset.univ) w Finset.univ) w Finset.univ = stack w := by
  funext j
  obtain ⟨b, x, y, z, rfl⟩ : ∃ (b : Fin 8) (x : Fin 64) (y : Fin 64) (z : Fin 512), j = ix4 b x y z := ⟨j 0, j 1, j 2, j 3, eq_ix4 j⟩
  show _ = w (ix3 x y z)
  rw [slab_write 7, slab_write 6, slab_write 5, slab_write 4, slab_write 3, slab_write 2, slab_write 1, slab_write 0]
  split_ifs <;> first | rfl | omega

/-- One launch of the body: the result holds eight copies of the array computed from the two tables; the tables, the
    scratch and the eight counters come back. -/
theorem run0 (c : Dev nD) (arg0 : Memref sig .tc .vmem S50x256 .f32) (harg0 : arg0.IsWhole)
    (arg1 : Memref sig .tc .vmem S50x256 .f32) (harg1 : arg1.IsWhole)
    (x0 x1 : Vec F S50x256 .f32) (fv : Vec F S8x64x64x512 .f32) (W : Waits sig Unit) (K : PUnit → sProp 𝕄) :
    iprop(owns (c : Thread nD τ) arg0 fullShare x0 ∗ owns (c : Thread nD τ) arg1 fullShare x1
        ∗ (∃ d, owns (c : Thread nD τ) scM fullShare d)
        ∗ semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ semVal ((c : Thread nD τ), SemLoc.dma 6) 0 ∗ semVal ((c : Thread nD τ), SemLoc.dma 7) 0
        ∗ semVal ((c : Thread nD τ), SemLoc.dma 8) 0 ∗ semVal ((c : Thread nD τ), SemLoc.dma 9) 0
        ∗ owns (c : Thread nD τ) hbV0 fullShare fv
        ∗ owes (c : Thread nD τ) 0 W
        ∗ ((owns (c : Thread nD τ) arg0 fullShare x0 ∗ owns (c : Thread nD τ) arg1 fullShare x1
            ∗ (∃ d, owns (c : Thread nD τ) scM fullShare d)
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ owns (c : Thread nD τ) hbV0 fullShare (stack (k0_pay1 x0 x1))
            ∗ ∃ W', owes (c : Thread nD τ) 0 W') -∗ K ⟨⟩))
      ⊢ wp frame (wpE (defs₀ (F := F)) Variants.none c none) Set.univ
          (cc0__pos_kernel arg0 harg0 arg1 harg1 hbV0 (Memref.isWhole_whole _) scM (Memref.isWhole_whole _) cc0_scratch1) K := by
  simp only [cc0__pos_kernel_eq_skeleton]; unfold cc0__pos_kernel_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%ds, %fs, -, HS⟩, Hq2, Hq3, Hq4, Hq5, Hq6, Hq7, Hq8, Hq9, ⟨%fV, -, HV⟩, HW, Hk⟩
  set_option sl_exec.maxSteps 4 in sl_exec
  ihave HS := (stored c _ _) $$ HS
  icases HS with ⟨%g, %hg, HS⟩
  ihave HT := (toks_eq c _).1 $$ HS
  icases HT with ⟨HTr, HT0, HT1, HT2, HT3, HT4, HT5, HT6, HT7, HT8, HT9⟩
  set_option sl_exec.dmaWindow true in set_option sl_exec.dmaWindowSet true in set_option sl_exec.dmaWindowLent true in sl_exec
  ihave HS := (toks_eq c _).2 $$ [HTr HT0 HT1 HT2 HT3 HT4 HT5 HT6 HT7 HT8 HT9]
  · isplitl [HTr]; · iexact HTr
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    isplitl [HT8]; · iexact HT8
    iexact HT9
  sl_step
  iapply Hk
  isplitl [H0]; · iexists f0; isplitr; · ipureintro; exact hf0
                  iexact H0
  isplitl [H1]; · iexists f1; isplitr; · ipureintro; exact hf1
                  iexact H1
  isplitl [HS]; · iexists _, g; isplitr; · ipureintro; rfl
                  iexact HS
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [HV]
  · iexists _; isplitr; swap; · iexact HV
    ipureintro
    refine (View.read_whole (Val := Elt F) main_v0 _).trans ((slabs_written _ _ _ _ _ _ _ _ _ _).trans (congrArg stack ?_))
    refine (show _ = scM.view.read (Elt F) g from rfl).trans (hg.trans ?_)
    rw [View.readAt_full, View.readAt_full, hf0, hf1]
  · iexists _; iexact HW

end Cert.KernelIdeal.Hand

end
-- ==== Proof.KI.Frame.lean ====
module

public import proofs.«01_k».proof.Proof.KI.Body
public import proofs.«01_k».proof.Proof.Gen.KernelIdeal.Frame
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The eight transfer counters the body uses. -/
abbrev osem0 : Fin 8 → SemLoc sig := fun j =>
  (![SemLoc.dma 2, SemLoc.dma 3, SemLoc.dma 4, SemLoc.dma 5, SemLoc.dma 6, SemLoc.dma 7, SemLoc.dma 8, SemLoc.dma 9] : Fin 8 → SemLoc sig) j

/-- They are the launch's own, distinct, and none serves a staged operand. -/
theorem ownSemFacts0 : Pipeline.OwnSemFacts spec0 osem0 := by decide

/-- The eight counters at zero, written one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ semVal ((c : Thread nD τ), SemLoc.dma 6) 0 ∗ semVal ((c : Thread nD τ), SemLoc.dma 7) 0
        ∗ semVal ((c : Thread nD τ), SemLoc.dma 8) 0 ∗ semVal ((c : Thread nD τ), SemLoc.dma 9) 0) := by
  rw [Pipeline.ownSems0_eq_of_list c osem0 [0, 1, 2, 3, 4, 5, 6, 7] (by decide) (by decide)]; rfl

/-- The array the body computes from the two tables. -/
def plane (c : Dev nD) : FVec F S64x64x512 .f32 := k0_pay1 (V m c main_arg4) (V m c main_arg3)

/-- What the buffers hold after the body: the launch's result holds eight copies of the computed array. -/
def G (c : Dev nD) : (b : Ref sig .tc) → Buf (Elt F) ((c : Thread nD τ).loc b) :=
  Function.update (V m c) main_v0 (stack (plane m c) : S8x64x64x512.Idx → Elt F .f32)

/-- The result after the body. -/
theorem G_v0 (c : Dev nD) : G m c main_v0 = (stack (plane m c) : S8x64x64x512.Idx → Elt F .f32) := Function.update_self ..

/-- The body's invariant: scratch, counters at zero, the result at its contents. -/
theorem PhiDRV0_eq (c : Dev nD) (g : (c : Dev nD) → (b : Ref sig .tc) → Buf (Elt F) ((c : Thread nD τ).loc b)) :
    (Pipeline.ΦDRV osem0 spec0 ∅ {main_v0} (V m) g c : sProp 𝕄)
      ⊣⊢ iprop((∃ d, owns (c : Thread nD τ) scM fullShare d)
          ∗ (semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0)
          ∗ owns (c : Thread nD τ) hbV0 fullShare (g c main_v0 : S8x64x64x512.Idx → Elt F .f32)) := by
  unfold Pipeline.ΦDRV
  rw [scopedRest0_eq, ownSems00_eq, bigSep_empty, bigSep_singleton]
  simp only [scM, hbV0, owns_whole]
  constructor
  · iintro ⟨H, Hs, -, HR⟩; iframe H Hs HR
  · iintro ⟨H, Hs, HR⟩; iframe H Hs HR
    exact .rfl

/-- The proof data of the launch: the operands as found, the staged copies left in place, the invariant before and
    after the body, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Pipeline.ΦDRV osem0 spec0 ∅ {main_v0} (V m) (if t.val = 0 then V m else G m) c
  q _ := fullShare
  owed _ := 0

/-- The operands are as the launch finds them. -/
theorem A_eq (c : Dev nD) (w : Fin cfg0.W) : (dats m 0 c).A w = V m c (Pipeline.arrRef spec0 w) := by
  dsimp only [dats]

/-- The body leaves the first staged table in place. -/
theorem after0 (c : Dev nD) (t : Fin cfg0.N) : (dats m 0 c).after 0 t = iblk m c 0 t := by dsimp only [dats]

/-- The body leaves the second staged table in place. -/
theorem after1 (c : Dev nD) (t : Fin cfg0.N) : (dats m 0 c).after 1 t = iblk m c 1 t := by dsimp only [dats]

/-- The body finds the first table staged. -/
theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl

/-- The body finds the second table staged. -/
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- The first staged block is its whole table. -/
theorem iblk0 (c : Dev nD) (t : Fin cfg0.N) : iblk m c 0 t = (V m c main_arg4 : S50x256.Idx → Elt F .f32) := by
  rw [fin_N0 t]
  funext y
  refine congrArg (V m c main_arg4) (funext fun a => Fin.ext ?_)
  fin_cases a
  · show 0 + 1 * (y 0).val = _; simp
  · show 0 + 1 * (y 1).val = _; simp

/-- The second staged block is its whole table. -/
theorem iblk1 (c : Dev nD) (t : Fin cfg0.N) : iblk m c 1 t = (V m c main_arg3 : S50x256.Idx → Elt F .f32) := by
  rw [fin_N0 t]
  funext y
  refine congrArg (V m c main_arg3) (funext fun a => Fin.ext ?_)
  fin_cases a
  · show 0 + 1 * (y 0).val = _; simp
  · show 0 + 1 * (y 1).val = _; simp

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body, run from the launch's invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦDRV osem0 spec0 ∅ {main_v0} (V m) (G m) c from by
      rw [fin_N0 t]; rfl,
    show (dats m 0 c).Φ t.castSucc = Pipeline.ΦDRV osem0 spec0 ∅ {main_v0} (V m) (V m) c from by
      rw [fin_N0 t]; rfl, after0, after1]
  simp only [before0, before1]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩⟩
  ihave HΦ := (PhiDRV0_eq m c (V m)).1 $$ HΦ
  icases HΦ with ⟨HS, ⟨Hq2, Hq3, Hq4, Hq5, Hq6, Hq7, Hq8, Hq9⟩, HV⟩
  iapply (run0 c _ _ _ _ (iblk m c 0 t) (iblk m c 1 t) _ W _)
  iframe H0 H1 HS Hq2 Hq3 Hq4 Hq5 Hq6 Hq7 Hq8 Hq9 HV HW
  iintro ⟨H0, H1, HS, Hq2, Hq3, Hq4, Hq5, Hq6, Hq7, Hq8, Hq9, HV, ⟨%W', HW'⟩⟩
  isplitl [HS Hq2 Hq3 Hq4 Hq5 Hq6 Hq7 Hq8 Hq9 HV]
  · iapply (PhiDRV0_eq m c (G m)).2
    rw [G_v0, plane, ← iblk0 m c t, ← iblk1 m c t]
    iframe HS Hq2 Hq3 Hq4 Hq5 Hq6 Hq7 Hq8 Hq9 HV
  isplitl [HW']
  · iexists W'; isplitr; · ipureintro; exact fun _ _ => Or.inl trivial
    iexact HW'
  iframe H0 H1

/-- The body named by the launch is the kernel's body on the staged operands. -/
theorem defs₀_row (t : Fin cfg0.N) :
    defs₀ (F := F) .tc cfg0.body (cfg0.bodyArgs t (cfg0.slots t)) = bodyAt0 t := by
  unfold defs₀; rw [Defs.onTc_tc]

/-- The launch's demand on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The whole program up to the region, then the line after it. -/
theorem hmainD : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [] [hostOps1] (by simp only [List.Forall])
    (by simp only [List.Forall]) main_chain

/-- The buffers after the launch, before the last line. -/
abbrev W0 (c : Dev nD) : Valuation τ sig (Elt F) :=
  Pipeline.withArrays spec0 c (Pipeline.withR (V0 m c) {main_v0} c (G m c)) fun w => (dats m 0 c).arrAt w cfg0.N

/-- An argument no line touches ends as launched. -/
theorem W0_rest (c : Dev nD) (b : Ref sig .tc) (h0 : ∀ w, Pipeline.arrRef spec0 w ≠ b) (h1 : b ≠ main_v0) (h2 : b ≠ main_v1) :
    StableHlo.after (List.flatten [hostOps1]) (W0 m c) (Proc.devRef .tc b) = V m c b := by
  rw [StableHlo.after_of_forall_not_mem (b := Proc.devRef .tc b) _ _ (List.forall_iff_forall_mem.mp (by
      simp only [hostOps1, List.flatten_cons, List.flatten_nil, List.append_nil, List.Forall, StableHlo.unary_writes,
        Finset.mem_singleton]
      exact StableHlo.devRef_ne_of_ne h2)),
    W0, Pipeline.withArrays_of_ne _ c _ _ b h0, Pipeline.withR_of_not_mem _ _ _ _ _ (by simpa using h1)]

/-- The result ends as the transposed stack. -/
theorem W0_v1 (c : Dev nD) :
    StableHlo.after (List.flatten [hostOps1]) (W0 m c) (Proc.devRef .tc main_v1)
      = (transpose S8x512x64x64 [0, 3, 1, 2] (stack (plane m c)) transposes_S8x64x64x512_S8x512x64x64_0_3_1_2 : S8x512x64x64.Idx → Elt F .f32) := by
  have e : W0 m c (Proc.devRef .tc main_v0) = (stack (plane m c) : S8x64x64x512.Idx → Elt F .f32) := by
    rw [W0, Pipeline.withArrays_of_ne _ c _ _ main_v0 (by exact (by decide : ∀ w, Pipeline.arrRef spec0 w ≠ main_v0)),
      Pipeline.withR_of_mem _ _ _ _ _ (by simp), G_v0]
  rw [← e]
  simp only [hostOps1, List.flatten_cons, List.flatten_nil, List.append_nil, StableHlo.after_cons, StableHlo.after_nil]
  exact StableHlo.unary_result main_v0 main_v1 _ _ _ (W0 m c)

set_option backward.isDefEq.respectTransparency.types false in
/-- The program's run: it ends, every counter reads zero, the arguments end as launched, and the result is the
    transposed stack of eight copies of the array the body computes from the two tables. -/
theorem run_main : θ_run defs (onTc (τ := τ) (main (F := F))) ⟨m, fun _ => 0, ρ⟩ (fun r => (∀ c : Dev nD,
      r.2.mem ((c.tc : Thread nD τ).loc main_v1)
        = (transpose S8x512x64x64 [0, 3, 1, 2] (stack (plane m c)) transposes_S8x64x64x512_S8x512x64x64_0_3_1_2 : S8x512x64x64.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_dmaR_aroundV (Q' := _) cfgs (dats m) (0 : Fin 1) launch0 osem0 defs₀ Variants.none ownSemFacts0 ∅ {main_v0}
    (by decide) (by decide) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m) (hA := A_eq m)
    (hin := fun _ => .rfl) (hout := fun _ => .rfl)
    (hQ' := fun _ h => ⟨fun c =>
      ⟨((h.1 c).2 main_v1 (Pipeline.mem_restRefs_of main_v1 (by decide) (by decide))).trans (W0_v1 m c),
      ((h.1 c).2 main_arg0 (Pipeline.mem_restRefs_of main_arg0 (by decide) (by decide))).trans (W0_rest m c _ (by decide) (by decide) (by decide)),
      ((h.1 c).2 main_arg1 (Pipeline.mem_restRefs_of main_arg1 (by decide) (by decide))).trans (W0_rest m c _ (by decide) (by decide) (by decide)),
      ((h.1 c).2 main_arg2 (Pipeline.mem_restRefs_of main_arg2 (by decide) (by decide))).trans (W0_rest m c _ (by decide) (by decide) (by decide)),
      ((h.1 c).1 1).trans ((dats m 0 c).arrAt_in 1 rfl _),
      ((h.1 c).1 0).trans ((dats m 0 c).arrAt_in 0 rfl _)⟩, h.2⟩)

/-- The run without its result: it ends, every counter reads zero, the arguments end as launched. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_main m ρ)

end Cert.KernelIdeal.Hand

end
-- ==== Proof.Scalar.lean ====
module

public import Idealize.ShloMosaic.Lib.Pointwise
public import Idealize.ShloMosaic.Lib.IdealHost

@[expose] public section

noncomputable section

/-! The scalar facts of the interpolation: where a grid position falls among the fifty table rows, and that
the words and the reals both programs compute for it are those of one natural number. -/

namespace Cert.Scal

open Idealize.ShloMosaic

/-- The table row at or below grid position `i`, whose coordinate is `i * 49 / 64`. -/
def cell (i : Nat) : Nat := i * 49 / 64

/-- The coordinate of grid position `i` among the table rows. -/
def coord (i : Nat) : EReal := (((i : ℝ) * 49 / 64 : ℝ) : EReal)

/-- How far the coordinate of position `i` lies above its row. -/
def frac (i : Nat) : EReal := coord i - ((cell i : ℝ) : EReal)

/-- The row below a position is not the last one. -/
theorem cell_lt (i : Fin 64) : cell i.val < 49 := by
  have := i.isLt
  unfold cell
  omega

/-- A small word read as a float is its natural number. -/
theorem sitofp_ofNat (n : Nat) (h : n < 2 ^ 31) :
    (FloatOps.sitofp (F := Ideal) .f32 (BitVec.ofNat 32 n) : EReal) = ((n : ℝ) : EReal) := by
  show (((BitVec.ofNat 32 n).toInt : ℝ) : EReal) = _
  have : (BitVec.ofNat 32 n).toInt = (n : Int) := by
    rw [BitVec.toInt_eq_toNat_of_lt] <;> simp only [BitVec.toNat_ofNat] <;> omega
  rw [this]
  simp

/-- The printed constant of the kernel's scale. -/
theorem scale_bits : Ideal.ofBits .f32 1061421056#32 = ((49 / 64 : ℝ) : EReal) := by
  simp [Ideal.ofBits, Ideal.ieee]
  norm_num
  rw [← EReal.coe_mul]
  norm_num

/-- The printed constant sixty-four. -/
theorem size_bits : Ideal.ofBits .f32 1115684864#32 = ((64 : ℝ) : EReal) := by
  simp [Ideal.ofBits, Ideal.ieee]
  norm_num
  rw [← EReal.coe_mul]
  norm_num

/-- The printed constant forty-nine. -/
theorem last_bits : Ideal.ofBits .f32 1111752704#32 = ((49 : ℝ) : EReal) := by
  simp [Ideal.ofBits, Ideal.ieee]
  norm_num
  rw [← EReal.coe_mul]
  norm_num

/-- The kernel's coordinate: position times the scale. -/
theorem coord_kernel (i : Fin 64) :
    (FloatOps.sitofp (F := Ideal) .f32 (BitVec.ofNat 32 i.val) : EReal) * Ideal.ofBits .f32 1061421056#32
      = coord i.val := by
  rw [sitofp_ofNat _ (by have := i.isLt; omega), scale_bits, ← EReal.coe_mul, coord]
  congr 1
  ring

/-- The reference's coordinate: position over sixty-four, times forty-nine. -/
theorem coord_reference (i : Fin 64) :
    Ideal.div (FloatOps.sitofp (F := Ideal) .f32 (BitVec.ofNat 32 i.val)) (Ideal.ofBits .f32 1115684864#32)
      * Ideal.ofBits .f32 1111752704#32 = coord i.val := by
  rw [sitofp_ofNat _ (by have := i.isLt; omega), size_bits, last_bits, Ideal.div_coe (by norm_num),
    ← EReal.coe_mul, ← EReal.coe_mul, coord]
  congr 1
  ring

/-- The floor of a position's coordinate is its row. -/
theorem floor_coord (i : Nat) : Ideal.liftRound Int.floor (coord i) = ((cell i : ℝ) : EReal) := by
  rw [coord, Ideal.liftRound_coe]
  have : ⌊((i : ℝ) * 49 / 64 : ℝ)⌋ = ((cell i : Nat) : Int) := by
    have h₁ : cell i * 64 ≤ i * 49 := by unfold cell; omega
    have h₂ : i * 49 < (cell i + 1) * 64 := by unfold cell; omega
    have r₁ : (cell i : ℝ) * 64 ≤ (i : ℝ) * 49 := by exact_mod_cast h₁
    have r₂ : (i : ℝ) * 49 < ((cell i : ℝ) + 1) * 64 := by exact_mod_cast h₂
    rw [Int.floor_eq_iff]
    push_cast
    constructor
    · linarith
    · linarith
  rw [this]
  simp

/-- A row number's float turned back into a word. -/
theorem fptosi_cell (i : Fin 64) :
    (FloatOps.fptosi (F := Ideal) (φ := .f32) 32 (((cell i.val : ℝ) : EReal))) = BitVec.ofNat 32 (cell i.val) := by
  show Ideal.fptosi 32 _ = _
  have h := cell_lt i
  have h0 : (0 : ℝ) ≤ (cell i.val : ℝ) := Nat.cast_nonneg _
  rw [Ideal.fptosi, Ideal.toIntClamped_coe, if_pos h0, Int.floor_natCast,
    ← BitVec.ofInt_natCast]
  congr 1
  omega

/-- A row number is not negative, so the wrap of a negative index leaves it. -/
theorem wrap_row : ∀ n : Fin 50,
    Scalar.select (IntOp.cmpi .slt (BitVec.ofNat 32 n.val) 0#32) (IntOp.addi (BitVec.ofNat 32 n.val) 50#32)
      (BitVec.ofNat 32 n.val) = BitVec.ofNat 32 n.val := by
  decide

/-- A row number passes the two bounds of the in-range mask. -/
theorem mask_row : ∀ n : Fin 50,
    IntOp.andi (IntOp.cmpi .sge (BitVec.ofNat 32 n.val) 0#32)
      (IntOp.cmpi .sle (BitVec.ofNat 32 n.val) 49#32) = 1#1 := by
  decide

/-- The conjunction of any number of set bits is set. -/
theorem fold_set [Std.Commutative (IntOp.andi (w := 1))] [Std.Associative (IntOp.andi (w := 1))] {ι : Type}
    (s : Finset ι) : s.fold IntOp.andi (1#1) (fun _ => 1#1) = 1#1 := by
  classical
  induction s using Finset.induction_on with
  | empty => rfl
  | insert a s ha ih => rw [Finset.fold_insert ha, ih]; rfl

/-- The row above a row that is not the last, as the reference clamps it. -/
theorem next_row : ∀ n : Fin 49,
    IntOp.minsi (IntOp.addi (BitVec.ofNat 32 n.val) 1#32) 49#32 = BitVec.ofNat 32 (n.val + 1) := by
  decide

end Cert.Scal
-- ==== Proof.Value.lean ====
module

public import proofs.«01_k».proof.Proof.KI.Frame
public import proofs.«01_k».proof.Proof.Scalar
public import proofs.«01_k».proof.Proof.Gen.ReferenceIdeal.Run
public import Idealize.ShloMosaic.Lib.Pointwise
public import Idealize.ShloMosaic.Lib.Pointwise.IndexBridge
public import Idealize.ShloMosaic.Lib.Routing.Ops

@[expose] public section

set_option maxRecDepth 16384

noncomputable section

/-! The kernel's result and the reference's, read at one index: each is the interpolation of two neighbouring
rows of one table. -/

namespace Cert.Value

open Idealize.ShloMosaic Idealize.ShloMosaic.TcCoe
open Cert.Scal

/-- The interpolation at grid position `i` of a table, given as rows, in one column. -/
def interp (T : Fin 50 → EReal) (i : Fin 64) : EReal :=
  T ⟨cell i.val, by have := cell_lt i; omega⟩ * (1 - frac i.val)
    + T ⟨cell i.val + 1, by have := cell_lt i; omega⟩ * frac i.val

/-- The kernel's weighted sum over all fifty rows keeps only the two neighbouring ones. -/
theorem sum_weights (T : Fin 50 → EReal) (i : Fin 64) :
    ∑ k : Fin 50, ((if ((k.val : ℝ) : EReal) = ((cell i.val : ℝ) : EReal) then 1 - frac i.val else 0)
        + (if ((k.val : ℝ) : EReal) = ((cell i.val : ℝ) : EReal) + 1 then frac i.val else 0)) * T k
      = interp T i := by
  have h := cell_lt i
  have e₁ : ∀ k : Fin 50, ((k.val : ℝ) : EReal) = ((cell i.val : ℝ) : EReal)
      ↔ k = ⟨cell i.val, by omega⟩ := fun k => by
    rw [EReal.coe_eq_coe_iff, Nat.cast_inj, Fin.ext_iff]
  have e₂ : ∀ k : Fin 50, ((k.val : ℝ) : EReal) = ((cell i.val : ℝ) : EReal) + 1
      ↔ k = ⟨cell i.val + 1, by omega⟩ := fun k => by
    rw [show ((cell i.val : ℝ) : EReal) + 1 = (((cell i.val + 1 : Nat) : ℝ) : EReal) by push_cast; rfl,
      EReal.coe_eq_coe_iff, Nat.cast_inj, Fin.ext_iff]
  simp only [e₁, e₂]
  have hne : (⟨cell i.val, by omega⟩ : Fin 50) ≠ ⟨cell i.val + 1, by omega⟩ := by
    simp [Fin.ext_iff]
  rw [Finset.sum_eq_add _ _ hne]
  · rw [if_pos rfl, if_neg hne, if_neg hne.symm, if_pos rfl, add_zero, zero_add, interp,
      mul_comm (1 - _), mul_comm (frac _)]
  · intro k _ hk
    rw [if_neg hk.1, if_neg hk.2, add_zero, zero_mul]
  · intro hk; exact absurd (Finset.mem_univ _) hk
  · intro hk; exact absurd (Finset.mem_univ _) hk

/-- What the grid holds at row `y`, column `x` and channel `ch`: the column table interpolated at `x` in the
first 256 channels, the row table interpolated at `y` in the rest. -/
def grid (col row : (⟨2, ![50, 256]⟩ : Shape).Idx → EReal) (y x : Fin 64) (ch : Fin 512) : EReal :=
  if h : ch.val < 256 then interp (fun k => col (ix2 k ⟨ch.val, h⟩)) x
  else interp (fun k => row (ix2 k ⟨ch.val - 256, by have := ch.isLt; omega⟩)) y

/-- The kernel's slab at an index. -/
theorem kernel_apply (x0 x1 : FVec Ideal Cert.KernelIdeal.S50x256 .f32) (y x : Fin 64) (ch : Fin 512) :
    Cert.KernelIdeal.Gen.k0_pay1 (F := Ideal) x0 x1 (ix3 y x ch) = grid x0 x1 y x ch := by
  pointwise [Cert.KernelIdeal.Gen.k0_pay1]
  have hk : ∀ k : Fin 50, (FloatOps.sitofp (F := Ideal) .f32 (BitVec.ofNat 32 k.val) : EReal) = ((k.val : ℝ) : EReal) :=
    fun k => sitofp_ofNat _ (by have := k.isLt; omega)
  simp only [coord_kernel, floor_coord, hk]
  unfold grid
  split <;> exact sum_weights _ _

/-- A row of the reference's looked-up table: the gather at an index vector that holds a row number. -/
theorem looked_up (T : FVec Ideal Cert.ReferenceIdeal.S50x256 .f32) (idx : IVec Cert.ReferenceIdeal.S64x1 32)
    (i : Fin 64) (q : Fin 256) (b : Fin 50) (h : idx (ix2 i (0 : Fin 1)) = BitVec.ofNat 32 b.val) :
    Host.gather Cert.ReferenceIdeal.gather_S50x256_S64x1_S64x256_1_0_n_n_0_1_1256 T idx (ix2 i q)
      = T (ix2 b q) := by
  rw [ix2_eq_valueIdx] at h ⊢
  rw [ix2_eq_valueIdx]
  exact Routing.gather_row _ rfl rfl rfl rfl rfl T idx i q b h (by norm_num)

/-- The reference's result at an index. -/
theorem ref_apply (m : (ℓ : Loc Cert.ReferenceIdeal.nD Cert.ReferenceIdeal.τ Cert.ReferenceIdeal.sig) → Buf (Elt Ideal) ℓ)
   (c : Dev Cert.ReferenceIdeal.nD) (b : Fin 8) (y x : Fin 64) (ch : Fin 512) :
    Cert.ReferenceIdeal.Value.res_main_v57 (F := Ideal) m c (ix4 b ch y x)
      = grid (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg3)) y x ch := by
  unfold Cert.ReferenceIdeal.Value.res_main_v57
  pointwise
  have w₀ : ∀ i : Fin 64, _ := fun i : Fin 64 => wrap_row ⟨cell i.val, by have := cell_lt i; omega⟩
  have w₁ : ∀ i : Fin 64, _ := fun i : Fin 64 => wrap_row ⟨cell i.val + 1, by have := cell_lt i; omega⟩
  have k₀ : ∀ i : Fin 64, _ := fun i : Fin 64 => mask_row ⟨cell i.val, by have := cell_lt i; omega⟩
  have k₁ : ∀ i : Fin 64, _ := fun i : Fin 64 => mask_row ⟨cell i.val + 1, by have := cell_lt i; omega⟩
  have n₀ : ∀ i : Fin 64, _ := fun i : Fin 64 => next_row ⟨cell i.val, cell_lt i⟩
  simp only at w₀ w₁ k₀ k₁ n₀
  simp only [coord_reference, floor_coord, fptosi_cell, n₀, w₀, w₁, k₀, k₁, fold_set]
  unfold grid interp frac
  split
  · rw [looked_up _ _ x _ ⟨cell x.val, by have := cell_lt x; omega⟩ ?_,
      looked_up _ _ x _ ⟨cell x.val + 1, by have := cell_lt x; omega⟩ ?_]
    · rfl
    · pointwise
      simp only [coord_reference, floor_coord, fptosi_cell, n₀, w₁]
    · pointwise
      simp only [coord_reference, floor_coord, fptosi_cell, w₀]
  · rw [looked_up _ _ y _ ⟨cell y.val, by have := cell_lt y; omega⟩ ?_,
      looked_up _ _ y _ ⟨cell y.val + 1, by have := cell_lt y; omega⟩ ?_]
    · rfl
    · pointwise
      simp only [coord_reference, floor_coord, fptosi_cell, n₀, w₁]
    · pointwise
      simp only [coord_reference, floor_coord, fptosi_cell, w₀]

end Cert.Value
-- ==== Proof.Equal.lean ====
module

public import proofs.«01_k».proof.Proof.Value
public import proofs.«01_k».proof.Defs
public import Idealize.ShloMosaic.Lib.Quiescent

@[expose] public section

set_option maxRecDepth 16384

noncomputable section

/-! The two results are equal as whole arrays, and the reference's run with its counters. -/

namespace Cert.Value

open Idealize.ShloMosaic Idealize.ShloMosaic.TcCoe Idealize.SL.Sem

/-- The reference's run ends with every argument unchanged and every counter zero: it has no counter. -/
theorem ref_quiescent : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- The kernel's result, eight copies of the slab with the channels moved forward, at an index. -/
theorem stacked_apply (p : Cert.KernelIdeal.S64x64x512.Idx → EReal) (b : Fin 8) (ch : Fin 512) (y x : Fin 64) :
    transpose Cert.KernelIdeal.S8x512x64x64 [0, 3, 1, 2] (Cert.KernelIdeal.Hand.stack p)
        Cert.KernelIdeal.Gen.transposes_S8x64x64x512_S8x512x64x64_0_3_1_2 (ix4 b ch y x)
      = p (ix3 y x ch) := by
  pointwise
  rw [Cert.KernelIdeal.Hand.stack, ix3_eq_valueIdx]
  rfl

/-- Every index of the result is one of image, channel, row and column. -/
theorem result_index (j : (⟨4, ![8, 512, 64, 64]⟩ : Shape).Idx) :
    ∃ (b : Fin 8) (ch : Fin 512) (y x : Fin 64), j = ix4 b ch y x :=
  ⟨j 0, j 1, j 2, j 3, (ValueIdx.eq_ix4 j).trans (ix4_eq_valueIdx _ _ _ _).symm⟩

/-- From tables that agree, the reference's result is the kernel's. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    (Cert.ReferenceIdeal.Value.res_main_v57 (F := Ideal) m' c : (⟨4, ![8, 512, 64, 64]⟩ : Shape).Idx → EReal)
      = transpose Cert.KernelIdeal.S8x512x64x64 [0, 3, 1, 2]
          (Cert.KernelIdeal.Hand.stack (Cert.KernelIdeal.Hand.plane (F := Ideal) m c))
          Cert.KernelIdeal.Gen.transposes_S8x64x64x512_S8x512x64x64_0_3_1_2 := by
  funext j
  obtain ⟨b, ch, y, x, rfl⟩ := result_index j
  rw [stacked_apply, ref_apply, h3, h4]
  exact (kernel_apply _ _ y x ch).symm

/-- The value claim: both programs run from agreeing arguments to equal results. -/
theorem algebraic : Cert.algebraic_KernelIdeal_ReferenceIdeal := by
  intro m g m' g' _ hag
  refine ⟨_, (θ_run _ _ _).mono (fun _ h => h.1) (Cert.KernelIdeal.Hand.run_main (F := Ideal) m g), ?_⟩
  refine (θ_run _ _ _).mono (fun r h c => ⟨(h c).1.trans ?_, (h c).2⟩)
    (Cert.ReferenceIdeal.Value.run (F := Ideal) m' g')
  exact results_eq m m' c (hag c).2.2.2.1 (hag c).2.2.2.2

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.K.Frame
public import proofs.«01_k».proof.Proof.KI.Frame
public import proofs.«01_k».proof.Proof.Equal

@[expose] public section

noncomputable section

namespace Cert.Proof

open Idealize.ShloMosaic Idealize.SL.Sem Cert.Kernel

/-- Everything claimed: the three programs end with their arguments unchanged and their counters zero, and the
kernel's result is the reference's. -/
theorem claim : Cert.Claim := ⟨Cert.Kernel.Gen.facts, Cert.KernelIdeal.Gen.facts, Cert.ReferenceIdeal.Gen.facts,
  fun m g _ => Cert.Kernel.Hand.frame_main (F := Bits) m g,
  fun m g _ => Cert.KernelIdeal.Hand.frame_main (F := Ideal) m g,
  Cert.Value.ref_quiescent,
  trivial,
  Cert.Value.algebraic⟩

end Cert.Proof

end
